-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x7168 : Shape := ⟨3, ![6, 256, 7168]⟩
abbrev S3584x2304 : Shape := ⟨2, ![3584, 2304]⟩
abbrev S56x2304 : Shape := ⟨2, ![56, 2304]⟩
abbrev S1536x7168 : Shape := ⟨2, ![1536, 7168]⟩
abbrev S1536x2304 : Shape := ⟨2, ![1536, 2304]⟩
abbrev S3584x256 : Shape := ⟨2, ![3584, 256]⟩
abbrev S56x256 : Shape := ⟨2, ![56, 256]⟩
abbrev S1536x256 : Shape := ⟨2, ![1536, 256]⟩
abbrev S7168x256 : Shape := ⟨2, ![7168, 256]⟩
abbrev S128x256 : Shape := ⟨2, ![128, 256]⟩
abbrev S1x256 : Shape := ⟨2, ![1, 256]⟩
abbrev S6x256x2304 : Shape := ⟨3, ![6, 256, 2304]⟩

abbrev nBuf : Space → Nat
  | .hbm => 6
  | .vmem => 8
  | .smem => 0
  | _ => 0

abbrev bufTy : (tb : Table) → Fin (tcTables nBuf tb) → BufTy
  | .hbm, ⟨0, _⟩ => ⟨S6x256x7168, .bf16⟩
  | .hbm, ⟨1, _⟩ => ⟨S3584x2304, .i8⟩
  | .hbm, ⟨2, _⟩ => ⟨S56x2304, .bf16⟩
  | .hbm, ⟨3, _⟩ => ⟨S1536x7168, .bf16⟩
  | .hbm, ⟨4, _⟩ => ⟨S1536x2304, .bf16⟩
  | .hbm, ⟨5, _⟩ => ⟨S6x256x2304, .bf16⟩
  | .local _ .vmem, ⟨0, _⟩ => ⟨S1536x7168, .bf16⟩
  | .local _ .vmem, ⟨1, _⟩ => ⟨S3584x256, .i8⟩
  | .local _ .vmem, ⟨2, _⟩ => ⟨S3584x256, .i8⟩
  | .local _ .vmem, ⟨3, _⟩ => ⟨S56x256, .bf16⟩
  | .local _ .vmem, ⟨4, _⟩ => ⟨S56x256, .bf16⟩
  | .local _ .vmem, ⟨5, _⟩ => ⟨S1536x256, .bf16⟩
  | .local _ .vmem, ⟨6, _⟩ => ⟨S1536x256, .bf16⟩
  | .local _ .vmem, ⟨7, _⟩ => ⟨S7168x256, .bf16⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S6x256x7168 : Shape := ⟨3, ![6, 256, 7168]⟩
abbrev S3584x2304 : Shape := ⟨2, ![3584, 2304]⟩
abbrev S56x2304 : Shape := ⟨2, ![56, 2304]⟩
abbrev S_ : Shape := ⟨0, ![]⟩
abbrev S28x2304 : Shape := ⟨2, ![28, 2304]⟩
abbrev S28x128x2304 : Shape := ⟨3, ![28, 128, 2304]⟩
abbrev S28x1x2304 : Shape := ⟨3, ![28, 1, 2304]⟩
abbrev S6x256x3584 : Shape := ⟨3, ![6, 256, 3584]⟩
abbrev S6x256x2304 : Shape := ⟨3, ![6, 256, 2304]⟩

abbrev nBuf : Space → Nat
  | .hbm => 36
  | .vmem => 0
  | .smem => 0
  | _ => 0

abbrev bufTy : (tb : Table) → Fin (tcTables nBuf tb) → BufTy
  | .hbm, ⟨0, _⟩ => ⟨S6x256x7168, .bf16⟩
  | .hbm, ⟨1, _⟩ => ⟨S3584x2304, .i8⟩
  | .hbm, ⟨2, _⟩ => ⟨S56x2304, .bf16⟩
  | .hbm, ⟨3, _⟩ => ⟨S3584x2304, .i32⟩
  | .hbm, ⟨4, _⟩ => ⟨S_, .i32⟩
  | .hbm, ⟨5, _⟩ => ⟨S3584x2304, .i32⟩
  | .hbm, ⟨6, _⟩ => ⟨S3584x2304, .i32⟩
  | .hbm, ⟨7, _⟩ => ⟨S_, .i32⟩
  | .hbm, ⟨8, _⟩ => ⟨S3584x2304, .i32⟩
  | .hbm, ⟨9, _⟩ => ⟨S3584x2304, .i32⟩
  | .hbm, ⟨10, _⟩ => ⟨S28x2304, .bf16⟩
  | .hbm, ⟨11, _⟩ => ⟨S3584x2304, .bf16⟩
  | .hbm, ⟨12, _⟩ => ⟨S_, .bf16⟩
  | .hbm, ⟨13, _⟩ => ⟨S3584x2304, .bf16⟩
  | .hbm, ⟨14, _⟩ => ⟨S3584x2304, .bf16⟩
  | .hbm, ⟨15, _⟩ => ⟨S28x128x2304, .bf16⟩
  | .hbm, ⟨16, _⟩ => ⟨S28x1x2304, .bf16⟩
  | .hbm, ⟨17, _⟩ => ⟨S28x128x2304, .bf16⟩
  | .hbm, ⟨18, _⟩ => ⟨S28x128x2304, .bf16⟩
  | .hbm, ⟨19, _⟩ => ⟨S3584x2304, .bf16⟩
  | .hbm, ⟨20, _⟩ => ⟨S28x2304, .bf16⟩
  | .hbm, ⟨21, _⟩ => ⟨S3584x2304, .bf16⟩
  | .hbm, ⟨22, _⟩ => ⟨S_, .bf16⟩
  | .hbm, ⟨23, _⟩ => ⟨S3584x2304, .bf16⟩
  | .hbm, ⟨24, _⟩ => ⟨S3584x2304, .bf16⟩
  | .hbm, ⟨25, _⟩ => ⟨S28x128x2304, .bf16⟩
  | .hbm, ⟨26, _⟩ => ⟨S28x1x2304, .bf16⟩
  | .hbm, ⟨27, _⟩ => ⟨S28x128x2304, .bf16⟩
  | .hbm, ⟨28, _⟩ => ⟨S28x128x2304, .bf16⟩
  | .hbm, ⟨29, _⟩ => ⟨S3584x2304, .bf16⟩
  | .hbm, ⟨30, _⟩ => ⟨S6x256x3584, .bf16⟩
  | .hbm, ⟨31, _⟩ => ⟨S6x256x2304, .f32⟩
  | .hbm, ⟨32, _⟩ => ⟨S6x256x3584, .bf16⟩
  | .hbm, ⟨33, _⟩ => ⟨S6x256x2304, .f32⟩
  | .hbm, ⟨34, _⟩ => ⟨S6x256x2304, .f32⟩
  | .hbm, ⟨35, _⟩ => ⟨S6x256x2304, .bf16⟩
  | _, _ => ⟨S6x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Spec.lean ====
/-
  The mathematics of the certificate, with no program in it: the weight a packed byte holds, one entry of the unpacked and
  scaled weight matrix, the sum over its rows as two sums over the packed rows, and the layer's result at one index.
-/
module

public import Idealize.ShloMosaic.Lib.Pointwise

@[expose] public section

noncomputable section

namespace Cert.Spec

open Idealize.ShloMosaic Idealize.ShloMosaic.Pointwise

/-- The weight held in the low four bits of the packed byte `p`, with scale `s`: `(code - 8) * s`. -/
def lo (p : BitVec 8) (s : EReal) : EReal :=
  (((IntOp.andi (p.setWidth 32) 15#32).toInt : ℝ) - Ideal.ofBits .bf16 0x4100#16 : EReal) * s

/-- The weight held in the high four bits of the packed byte `p`, with scale `s`: `(code - 8) * s`. -/
def hi (p : BitVec 8) (s : EReal) : EReal :=
  ((((p.setWidth 32).sshiftRight' 4#32).toInt : ℝ) - Ideal.ofBits .bf16 0x4100#16 : EReal) * s

/-- Entry `(k, j)` of the unpacked and scaled weight matrix of `N` columns: the first 3584 rows are the low four bits of
    the packed rows, the last 3584 rows their high four bits, and 128 consecutive rows share one row of scales. -/
def deq {N : Nat} (w : IVec ⟨2, ![3584, N]⟩ 8) (s : FVec Ideal ⟨2, ![56, N]⟩ .bf16) (k : Fin 7168) (j : Fin N) : EReal :=
  if h : k.val < 3584 then lo (w (ix2 ⟨k, h⟩ j)) (s (ix2 ⟨k / 128, by omega⟩ j))
  else hi (w (ix2 ⟨k - 3584, by omega⟩ j)) (s (ix2 ⟨k / 128, by omega⟩ j))

/-- A sum over the 7168 rows of the weight matrix, weighted by `f`, is the sum over the 3584 packed rows of what their
    low four bits contribute plus the sum over the packed rows of what their high four bits contribute. -/
theorem sum_deq {N : Nat} (w : IVec ⟨2, ![3584, N]⟩ 8) (s : FVec Ideal ⟨2, ![56, N]⟩ .bf16) (f : Fin 7168 → EReal)
    (j : Fin N) :
    ∑ k : Fin 7168, f k * deq w s k j
      = ∑ k : Fin 3584, f ⟨k, by omega⟩ * lo (w (ix2 k j)) (s (ix2 ⟨k / 128, by omega⟩ j))
        + ∑ k : Fin 3584, f ⟨3584 + k, by omega⟩ * hi (w (ix2 k j)) (s (ix2 ⟨28 + k / 128, by omega⟩ j)) := by
  rw [Fin.sum_univ_two_halves 3584 3584 (by norm_num) (fun k => f k * deq w s k j)]
  refine congrArg₂ (· + ·) (Finset.sum_congr rfl fun k _ => ?_) (Finset.sum_congr rfl fun k _ => ?_)
  · unfold deq
    rw [dif_pos (show k.val < 3584 from k.isLt)]
  · unfold deq
    rw [dif_neg (show ¬ 3584 + k.val < 3584 by omega)]
    have e1 : ∀ h, (⟨3584 + k.val - 3584, h⟩ : Fin 3584) = k := fun h => Fin.ext (by show 3584 + k.val - 3584 = k.val; omega)
    have e2 : ∀ h, (⟨(3584 + k.val) / 128, h⟩ : Fin 56) = ⟨28 + k / 128, by omega⟩ :=
      fun h => Fin.ext (by show (3584 + k.val) / 128 = 28 + k.val / 128; omega)
    rw [e1, e2]

/-- The layer's result at token `t` of sequence `b` and column `j`: the sum over the 7168 input features of the activation
    times the unpacked and scaled weight. -/
def layer (x : FVec Ideal ⟨3, ![6, 256, 7168]⟩ .bf16) (w : IVec ⟨2, ![3584, 2304]⟩ 8) (s : FVec Ideal ⟨2, ![56, 2304]⟩ .bf16)
    (b : Fin 6) (t : Fin 256) (j : Fin 2304) : EReal :=
  ∑ k : Fin 7168, x (ix3 b t k) * deq w s k j

end Cert.Spec
-- ==== Proof.Block.lean ====
/-
  What one grid point leaves in its block of the result: the product of the activations with the unpacked and scaled
  weights of the block's 256 columns. The body unpacks the weights into a scratch buffer in 56 pieces of 128 rows and
  multiplies once by the whole buffer.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Tactic.CleanTypes
public import proofs.«01_k».proof.Proof.Spec

@[expose] public section

set_option maxRecDepth 16384

noncomputable section

namespace Cert.KernelIdeal.Gen

open Idealize.ShloMosaic Idealize.ShloMosaic.Pointwise

/-- A piece the body unpacks from the low four bits, at row `a` and column `b`. -/
theorem lo_apply (v0 : IVec S128x256 8) (v4 : FVec Ideal S1x256 .bf16) (a : Fin 128) (b : Fin 256) :
    shapeCast S128x256 (mulf (subf (truncf .bf16 (sitofp (F := Ideal) .f32 (andi (extui 32 v0 natLt_8_32)
      (broadcast S128x256 15#32))) bitsLt_bf16_f32) (broadcast S128x256 (Scalar.ofBits (F := Ideal) .bf16 0x4100#16)))
      (broadcastTo S128x256 v4 broadcasts_S1x256_S128x256)) shapeCasts_S128x256_S128x256 (ix2 a b)
      = Spec.lo (v0 (ix2 a b)) (v4 (ix2 0 b)) := by
  pointwise
  rfl

/-- A piece the body unpacks from the high four bits, at row `a` and column `b`. -/
theorem hi_apply (v0 : IVec S128x256 8) (v4 : FVec Ideal S1x256 .bf16) (a : Fin 128) (b : Fin 256) :
    shapeCast S128x256 (mulf (subf (truncf .bf16 (sitofp (F := Ideal) .f32 (shrsi (extui 32 v0 natLt_8_32)
      (broadcast S128x256 4#32))) bitsLt_bf16_f32) (broadcast S128x256 (Scalar.ofBits (F := Ideal) .bf16 0x4100#16)))
      (broadcastTo S128x256 v4 broadcasts_S1x256_S128x256)) shapeCasts_S128x256_S128x256 (ix2 a b)
      = Spec.hi (v0 (ix2 a b)) (v4 (ix2 0 b)) := by
  pointwise
  rfl

/-- The body's product of the activations with the scratch buffer `W`, at row `r` and column `j`, where column `j` of `W`
    is `g`. -/
theorem pay1_apply (x0 : FVec Ideal S1536x7168 .bf16) (W : FVec Ideal S7168x256 .bf16) (r : Fin 1536) (j : Fin 256)
    (g : Fin 7168 → EReal) (hW : ∀ k, W (ix2 k j) = g k) :
    k0_pay1 (k0_pay101 x0) W (ix2 r j) = ∑ k : Fin 7168, x0 (ix2 r k) * g k := by
  unfold k0_pay1 k0_pay101
  clean_types
  pointwise
  simp only [hW]

/-- What the body stores for the low four bits of the packed rows `o … o + 127` of its block, with the row `q` of scales, is
    the weight matrix's entries at the rows it stores them to. -/
theorem lo_piece (w : IVec S3584x256 8) (s : FVec Ideal S56x256 .bf16) (x : S128x256.Idx) (k : Fin 7168) (j : Fin 256)
    (o q : Nat) (h1 : ∀ a, (![o, 0] : Fin 2 → Nat) a + (![128, 256] : Fin 2 → Nat) a ≤ S3584x256.size a)
    (h2 : ∀ a, (![q, 0] : Fin 2 → Nat) a + (![1, 256] : Fin 2 → Nat) a ≤ S56x256.size a)
    (hk : k.val = o + (x 0).val) (hj : j.val = (x 1).val) (ho : o + 128 ≤ 3584) (hq : o = 128 * q) :
    shapeCast S128x256 (mulf (subf (truncf .bf16 (sitofp (F := Ideal) .f32 (andi (extui 32
      (View.ld (Val := Elt Ideal) (S := S3584x256) (e' := .i8) w (Rect.unit (s := S3584x256) ![o, 0] ![128, 256] h1) : IVec S128x256 8)
      natLt_8_32) (broadcast S128x256 15#32))) bitsLt_bf16_f32)
      (broadcast S128x256 (Scalar.ofBits (F := Ideal) .bf16 0x4100#16)))
      (broadcastTo S128x256 (View.ld (Val := Elt Ideal) (S := S56x256) (e' := .bf16) s (Rect.unit (s := S56x256) ![q, 0] ![1, 256] h2) : FVec Ideal S1x256 .bf16)
        broadcasts_S1x256_S128x256)) shapeCasts_S128x256_S128x256 x = Spec.deq w s k j := by
  idx_vars x
  have hk' : k.val = o + x0.val := hk
  have hj' : j.val = x1.val := hj
  have hx0 : x0.val < 128 := x0.isLt
  have hlt : k.val < 3584 := by omega
  rw [lo_apply]
  unfold Spec.deq
  rw [dif_pos hlt]
  refine congrArg₂ Spec.lo (View.ld_unit_apply_of _ _ _ _ _ _ fun d => ?_) (View.ld_unit_apply_of _ _ _ _ _ _ fun d => ?_)
  · match d with
    | ⟨0, _⟩ => show k.val = o + x0.val; omega
    | ⟨1, _⟩ => show j.val = 0 + x1.val; omega
  · match d with
    | ⟨0, _⟩ => show k.val / 128 = q + 0; omega
    | ⟨1, _⟩ => show j.val = 0 + x1.val; omega

/-- What the body stores for the high four bits of the packed rows `o … o + 127` of its block, with the row `q` of scales, is
    the weight matrix's entries at the rows it stores them to. -/
theorem hi_piece (w : IVec S3584x256 8) (s : FVec Ideal S56x256 .bf16) (x : S128x256.Idx) (k : Fin 7168) (j : Fin 256)
    (o q : Nat) (h1 : ∀ a, (![o, 0] : Fin 2 → Nat) a + (![128, 256] : Fin 2 → Nat) a ≤ S3584x256.size a)
    (h2 : ∀ a, (![q, 0] : Fin 2 → Nat) a + (![1, 256] : Fin 2 → Nat) a ≤ S56x256.size a)
    (hk : k.val = 3584 + o + (x 0).val) (hj : j.val = (x 1).val) (ho : o + 128 ≤ 3584) (hq : 3584 + o = 128 * q) :
    shapeCast S128x256 (mulf (subf (truncf .bf16 (sitofp (F := Ideal) .f32 (shrsi (extui 32
      (View.ld (Val := Elt Ideal) (S := S3584x256) (e' := .i8) w (Rect.unit (s := S3584x256) ![o, 0] ![128, 256] h1) : IVec S128x256 8)
      natLt_8_32) (broadcast S128x256 4#32))) bitsLt_bf16_f32)
      (broadcast S128x256 (Scalar.ofBits (F := Ideal) .bf16 0x4100#16)))
      (broadcastTo S128x256 (View.ld (Val := Elt Ideal) (S := S56x256) (e' := .bf16) s (Rect.unit (s := S56x256) ![q, 0] ![1, 256] h2) : FVec Ideal S1x256 .bf16)
        broadcasts_S1x256_S128x256)) shapeCasts_S128x256_S128x256 x = Spec.deq w s k j := by
  idx_vars x
  have hk' : k.val = 3584 + o + x0.val := hk
  have hj' : j.val = x1.val := hj
  have hx0 : x0.val < 128 := x0.isLt
  have hlt : ¬ k.val < 3584 := by omega
  rw [hi_apply]
  unfold Spec.deq
  rw [dif_neg hlt]
  refine congrArg₂ Spec.hi (View.ld_unit_apply_of _ _ _ _ _ _ fun d => ?_) (View.ld_unit_apply_of _ _ _ _ _ _ fun d => ?_)
  · match d with
    | ⟨0, _⟩ => show k.val - 3584 = o + x0.val; omega
    | ⟨1, _⟩ => show j.val = 0 + x1.val; omega
  · match d with
    | ⟨0, _⟩ => show k.val / 128 = q + 0; omega
    | ⟨1, _⟩ => show j.val = 0 + x1.val; omega

set_option maxHeartbeats 1000000 in
/-- What the body leaves in the result's block, at row `r` and column `j` of the block, from the activations `x0`, the
    block `x1` of packed weights and the block `x2` of scales. -/
theorem out_apply (c : Dev nD) (i : grid0.Coords) (arg1 : Memref sig .tc .vmem S1536x7168 .bf16) (harg1 : arg1.IsWhole) (arg2 : Memref sig .tc .vmem S3584x256 .i8) (harg2 : arg2.IsWhole) (arg3 : Memref sig .tc .vmem S56x256 .bf16) (harg3 : arg3.IsWhole) (arg4 : Memref sig .tc .vmem S1536x256 .bf16) (harg4 : arg4.IsWhole) (arg5 : Memref sig .tc .vmem S7168x256 .bf16) (harg5 : arg5.IsWhole)
    (x0 : Vec Ideal S1536x7168 .bf16) (x1 : Vec Ideal S3584x256 .i8) (x2 : Vec Ideal S56x256 .bf16) (r : Fin 1536) (j : Fin 256) :
    out0_A_3 c i arg1 harg1 arg2 harg2 arg3 harg3 arg4 harg4 arg5 harg5 x0 x1 x2 (ix2 r j) = ∑ k : Fin 7168, x0 (ix2 r k) * Spec.deq x1 x2 k j := by
  frame_out
  refine pay1_apply _ _ _ _ _ fun k => ?_
  rw [View.readCov_eq_canon']
  have hidx : (Rect.unit ![0, 0] ![7168, 256] inb_S7168x256_S7168x256_0_0).toLoadRect.idx (ix2 k j) = ix2 k j := by
    idx_ext
  refine (congrArg (View.canon _) hidx).trans ?_
  canon_tiles x h
  all_goals
    have hk : k.val = _ := h0
    open_payloads
    first
      | (have hlt : k.val < 3584 := by omega
         exact lo_piece _ _ _ _ _ _ _ _ _ (hk.trans (by omega)) h1 (by omega) (by omega))
      | (have hlt : ¬ k.val < 3584 := by omega
         exact hi_piece _ _ _ _ _ _ _ _ _ (hk.trans (by omega)) h1 (by omega) (by omega))

end Cert.KernelIdeal.Gen
-- ==== Proof.Array.lean ====
/-
  The kernel's whole result after the run: the nine blocks of 256 columns side by side, reshaped to sequences and tokens,
  are the layer's result of Proof/Spec.lean.
-/
module

public import proofs.«01_k».proof.Proof.Block

@[expose] public section

set_option maxRecDepth 16384

noncomputable section

namespace Cert.KernelIdeal.Gen

open Idealize.ShloMosaic Idealize.ShloMosaic.Pointwise

/-- Where each window's block lies at grid point `t`: the activations whole, the packed weights, the scales and the result
    at block column `t`. -/
theorem idx : ∀ t : Fin cfg0.grid.N, win0_0.index t = ![0, 0] ∧ win0_1.index t = ![0, t.val] ∧ win0_2.index t = ![0, t.val]
    ∧ win0_3.index t = ![0, t.val] := by decide +kernel

/-- The layer's result with the tokens of all sequences as rows: row `r` holds token `r % 256` of sequence `r / 256`. -/
def rows (x : FVec Ideal S6x256x7168 .bf16) (w : IVec S3584x2304 8) (s : FVec Ideal S56x2304 .bf16) :
    FVec Ideal S1536x2304 .bf16 :=
  fun i => Spec.layer x w s ⟨(i 0).val / 256, by have h : (i 0).val < 1536 := (i 0).isLt; omega⟩
    ⟨(i 0).val % 256, by omega⟩ (i 1)

/-- Reshaped to sequences and tokens, the rows are the layer's result index by index. -/
theorem reshape_rows (x : FVec Ideal S6x256x7168 .bf16) (w : IVec S3584x2304 8) (s : FVec Ideal S56x2304 .bf16) :
    shapeCast S6x256x2304 (rows x w s) shapeCasts_S1536x2304_S6x256x2304
      = fun i => Spec.layer x w s (i 0) (i 1) (i 2) := by
  funext i
  idx_vars i
  pointwise
  have h0 : ∀ h, (⟨(i0.val * 256 + i1.val) / 256, h⟩ : Fin 6) = i0 := fun h =>
    Fin.ext (by have := i1.isLt; show (i0.val * 256 + i1.val) / 256 = i0.val; omega)
  have h1 : ∀ h, (⟨(i0.val * 256 + i1.val) % 256, h⟩ : Fin 256) = i1 := fun h =>
    Fin.ext (by have := i1.isLt; show (i0.val * 256 + i1.val) % 256 = i1.val; omega)
  exact congrArg₂ (fun b t => Spec.layer x w s b t i2) (h0 _) (h1 _)

/-- The activations with the tokens of all sequences as rows: row `r` is token `r % 256` of sequence `r / 256`. -/
theorem reshape_x (x : FVec Ideal S6x256x7168 .bf16) (r : Fin 1536) (k : Fin 7168) :
    shapeCast S1536x7168 x shapeCasts_S6x256x7168_S1536x7168 (ix2 r k) = x (ix3 ⟨r / 256, by omega⟩ ⟨r % 256, by omega⟩ k) := by
  pointwise

/-- The activations as the pipeline finds them: the argument with the tokens of all sequences as rows. -/
theorem V_main_v0 (m : (ℓ : Loc nD τ sig) → Buf (Elt Ideal) ℓ) (c : Dev nD) : (V m c main_v0 : FVec Ideal S1536x7168 .bf16)
    = shapeCast S1536x7168 (m ((c.tc : Thread nD τ).loc main_arg0) : FVec Ideal S6x256x7168 .bf16) shapeCasts_S6x256x7168_S1536x7168 := by
  show StableHlo.after hostOps0 (fun b => m (c, b)) (Proc.devRef .tc main_v0) = _
  after_results
  rfl

/-- The block of activations at any grid point is all of them: row `r` is token `r % 256` of sequence `r / 256`. -/
theorem x_block (m : (ℓ : Loc nD τ sig) → Buf (Elt Ideal) ℓ) (c : Dev nD) (t : Fin cfg0.grid.N) (r : Fin 1536) (k : Fin 7168) :
    (iblk m c 0 t : FVec Ideal S1536x7168 .bf16) (ix2 r k)
      = (m ((c.tc : Thread nD τ).loc main_arg0) : FVec Ideal S6x256x7168 .bf16) (ix3 ⟨r / 256, by omega⟩ ⟨r % 256, by omega⟩ k) := by
  have h : (iblk m c 0 t : FVec Ideal S1536x7168 .bf16) (ix2 r k) = (V m c main_v0 : FVec Ideal S1536x7168 .bf16) (ix2 r k) := by
    unfold iblk
    generalize V m c = A
    blk_ext [idx t]
  rw [h, V_main_v0]
  exact reshape_x _ r k

/-- The block's entries of the weight matrix at grid point `t` are the matrix's entries 256 `t` columns on. -/
theorem deq_block (m : (ℓ : Loc nD τ sig) → Buf (Elt Ideal) ℓ) (c : Dev nD) (t : Fin cfg0.grid.N) (k : Fin 7168) (j : Fin 256) :
    Spec.deq (iblk m c 1 t : IVec S3584x256 8) (iblk m c 2 t : FVec Ideal S56x256 .bf16) k j
      = Spec.deq (m ((c.tc : Thread nD τ).loc main_arg1) : IVec S3584x2304 8) (m ((c.tc : Thread nD τ).loc main_arg2) : FVec Ideal S56x2304 .bf16)
          k ⟨t.val * 256 + j.val, by have : t.val < 9 := t.isLt; omega⟩ := by
  have hw : ∀ a : Fin 3584, (iblk m c 1 t : IVec S3584x256 8) (ix2 a j)
      = (m ((c.tc : Thread nD τ).loc main_arg1) : IVec S3584x2304 8) (ix2 a ⟨t.val * 256 + j.val, by have : t.val < 9 := t.isLt; omega⟩) := by
    intro a
    unfold iblk
    rw [← V_main_arg1 m c]
    generalize V m c = A
    blk_ext [idx t]
  have hs : ∀ a : Fin 56, (iblk m c 2 t : FVec Ideal S56x256 .bf16) (ix2 a j)
      = (m ((c.tc : Thread nD τ).loc main_arg2) : FVec Ideal S56x2304 .bf16) (ix2 a ⟨t.val * 256 + j.val, by have : t.val < 9 := t.isLt; omega⟩) := by
    intro a
    unfold iblk
    rw [← V_main_arg2 m c]
    generalize V m c = A
    blk_ext [idx t]
  unfold Spec.deq
  simp only [hw, hs]

/-- The array the pipeline leaves is the layer's result, row `r` holding token `r % 256` of sequence `r / 256`. -/
theorem arr_eq (m : (ℓ : Loc nD τ sig) → Buf (Elt Ideal) ℓ) (c : Dev nD) :
    (dats m 0 c).arrAt 3 (cfgs 0).N = rows (m ((c.tc : Thread nD τ).loc main_arg0))
      (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  refine (out_apply ..).trans ?_
  have h3 : (win0_3.blk t).view.emb (ix2 y0 y1) = ix2 y0 ⟨t.val * 256 + y1.val, by have := t.isLt; have : t.val < 9 := t.isLt; omega⟩ := by
    blk_ext [idx t]
  refine (Finset.sum_congr rfl fun k _ => congrArg₂ (fun u v : EReal => u * v) (x_block m c t y0 k) (deq_block m c t k y1)).trans ?_
  exact congrArg (rows _ _ _) h3.symm
/-- After the trailing reshape, the kernel's result is the layer's, index by index. -/
theorem tail_eq (m : (ℓ : Loc nD τ sig) → Buf (Elt Ideal) ℓ) (c : Dev nD) :
    (Pipeline.afterTail₀ cfgs (dats m) 0 (V0 m) [hostOps1] c main_v2 : FVec Ideal S6x256x2304 .bf16)
      = fun i => Spec.layer (m ((c.tc : Thread nD τ).loc main_arg0)) (m ((c.tc : Thread nD τ).loc main_arg1))
          (m ((c.tc : Thread nD τ).loc main_arg2)) (i 0) (i 1) (i 2) := by
  unfold Pipeline.afterTail₀
  show StableHlo.after hostOps1 _ (Proc.devRef .tc main_v2) = _
  have h := (Pipeline.withArrays_arr spec0 (by decide) c (V0 m c) (fun w => (dats m 0 c).arrAt w (cfgs 0).N) 3).trans (arr_eq m c)
  generalize Pipeline.withArrays (cfgs 0).spec c (V0 m c) (fun w => (dats m 0 c).arrAt w (cfgs 0).N) = A at h ⊢
  after_results
  exact (congrArg (fun X : FVec Ideal S1536x2304 .bf16 => shapeCast S6x256x2304 X shapeCasts_S1536x2304_S6x256x2304) h).trans
    (reshape_rows _ _ _)

end Cert.KernelIdeal.Gen
-- ==== Proof.Ref.lean ====
/-
  The reference's result, read at an index: the layer's result of Proof/Spec.lean.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal

open Cert.ReferenceIdeal.Gen Idealize.ShloMosaic
open Idealize.ShloMosaic.Pointwise

/-- The reference's result as one function of its three arguments. -/
def result (x : FVec Ideal S6x256x7168 .bf16) (w : IVec S3584x2304 8) (s : FVec Ideal S56x2304 .bf16) :
    FVec Ideal S6x256x2304 .bf16 :=
  truncf (F := Ideal) (φ := .f32) .bf16 (addf (Host.dotGeneral dot_S6x256x3584_S3584x2304_S6x256x2304_2_0_01_1_n_n none (extractStridedSlice S6x256x3584 ![0, 0, 0] x slices_S6x256x7168_S6x256x3584_0_0_0) (shapeCast _ (mulf (shapeCast _ (subf (sitofp .bf16 (andi (extui 32 w natLt_8_32) (broadcastInDim S3584x2304 ![] bcast_S_S3584x2304 (constantI S_ 32 15#32)))) (broadcastInDim S3584x2304 ![] bcast_S_S3584x2304 (constant S_ .bf16 0x4100#16))) shapeCasts_S3584x2304_S28x128x2304) (broadcastInDim S28x128x2304 ![0, 1, 2] bcast_S28x1x2304_S28x128x2304_0_1_2 (broadcastInDim S28x1x2304 ![0, 2] bcast_S28x2304_S28x1x2304_0_2 (extractStridedSlice S28x2304 ![0, 0] s slices_S56x2304_S28x2304_0_0)))) shapeCasts_S28x128x2304_S3584x2304)) (Host.dotGeneral dot_S6x256x3584_S3584x2304_S6x256x2304_2_0_01_1_n_n none (extractStridedSlice S6x256x3584 ![0, 0, 3584] x slices_S6x256x7168_S6x256x3584_0_0_3584) (shapeCast _ (mulf (shapeCast _ (subf (sitofp .bf16 (Host.shrsi (extui 32 w natLt_8_32) (broadcastInDim S3584x2304 ![] bcast_S_S3584x2304 (constantI S_ 32 4#32)))) (broadcastInDim S3584x2304 ![] bcast_S_S3584x2304 (constant S_ .bf16 0x4100#16))) shapeCasts_S3584x2304_S28x128x2304) (broadcastInDim S28x128x2304 ![0, 1, 2] bcast_S28x1x2304_S28x128x2304_0_1_2 (broadcastInDim S28x1x2304 ![0, 2] bcast_S28x2304_S28x1x2304_0_2 (extractStridedSlice S28x2304 ![28, 0] s slices_S56x2304_S28x2304_28_0)))) shapeCasts_S28x128x2304_S3584x2304))) bitsLt_bf16_f32

/-- The reference's result at token `t` of sequence `b` and column `j` is the layer's. -/
theorem result_apply (x : FVec Ideal S6x256x7168 .bf16) (w : IVec S3584x2304 8) (s : FVec Ideal S56x2304 .bf16)
    (b : Fin 6) (t : Fin 256) (j : Fin 2304) : result x w s (ix3 b t j) = Spec.layer x w s b t j := by
  unfold Spec.layer
  rw [Spec.sum_deq w s (fun k => x (ix3 b t k)) j]
  unfold result
  clean_types
  pointwise
  rfl

/-- The reference's result is the layer's, index by index. -/
theorem result_eq (x : FVec Ideal S6x256x7168 .bf16) (w : IVec S3584x2304 8) (s : FVec Ideal S56x2304 .bf16) :
    result x w s = fun i => Spec.layer x w s (i 0) (i 1) (i 2) := by
  funext i
  idx_vars i
  exact result_apply ..

end Cert.ReferenceIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Ref
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to its end, leaves its arguments as they were, and no semaphore is left counting. -/
theorem frameReference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments, the kernel's result and the reference's are the same array over the extended reals: at every
    index the layer's result. -/
theorem algebraic : Cert.algebraic_KernelIdeal_ReferenceIdeal := by
  intro m ρ m' ρ' _ hagree
  refine ⟨fun c => (fun i => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2) :
      FVec Ideal Cert.KernelIdeal.S6x256x2304 .bf16), ?_, ?_⟩
  · run_from (Cert.KernelIdeal.Gen.run_main (F := Ideal) m ρ) & (Cert.KernelIdeal.Gen.unchanged (F := Ideal) m ρ)
    exact Cert.KernelIdeal.Gen.tail_eq m c
  · refine (θ_run _ _ _).mono (fun r h c => ⟨(h c).1.trans ?_, (h c).2⟩) (Cert.ReferenceIdeal.Value.run (F := Ideal) m' ρ')
    rw [(hagree c).1, (hagree c).2.1, (hagree c).2.2]
    exact Cert.ReferenceIdeal.result_eq _ _ _

/-- The whole claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frameReference, trivial, algebraic⟩

end Cert.Proof

end
